-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x8192 : Shape := ⟨3, ![1, 256, 8192]⟩
abbrev S4096x7168 : Shape := ⟨2, ![4096, 7168]⟩
abbrev S64x7168 : Shape := ⟨2, ![64, 7168]⟩
abbrev S64x3584 : Shape := ⟨2, ![64, 3584]⟩
abbrev S256x8192 : Shape := ⟨2, ![256, 8192]⟩
abbrev S256x7168 : Shape := ⟨2, ![256, 7168]⟩
abbrev S4096x512 : Shape := ⟨2, ![4096, 512]⟩
abbrev S64x512 : Shape := ⟨2, ![64, 512]⟩
abbrev S64x256 : Shape := ⟨2, ![64, 256]⟩
abbrev S256x512 : Shape := ⟨2, ![256, 512]⟩
abbrev S64x128 : Shape := ⟨2, ![64, 128]⟩
abbrev S64x128x1 : Shape := ⟨3, ![64, 128, 1]⟩
abbrev S2x512 : Shape := ⟨2, ![2, 512]⟩
abbrev S2x128x512 : Shape := ⟨3, ![2, 128, 512]⟩
abbrev S2x1x512 : Shape := ⟨3, ![2, 1, 512]⟩
abbrev S256x256 : Shape := ⟨2, ![256, 256]⟩
abbrev S1x256x7168 : Shape := ⟨3, ![1, 256, 7168]⟩

abbrev nBuf : Space → Nat
  | .hbm => 7
  | .vmem => 9
  | .smem => 0
  | _ => 0

abbrev bufTy : (tb : Table) → Fin (tcTables nBuf tb) → BufTy
  | .hbm, ⟨0, _⟩ => ⟨S1x256x8192, .bf16⟩
  | .hbm, ⟨1, _⟩ => ⟨S4096x7168, .i8⟩
  | .hbm, ⟨2, _⟩ => ⟨S64x7168, .bf16⟩
  | .hbm, ⟨3, _⟩ => ⟨S64x3584, .i8⟩
  | .hbm, ⟨4, _⟩ => ⟨S256x8192, .bf16⟩
  | .hbm, ⟨5, _⟩ => ⟨S256x7168, .bf16⟩
  | .hbm, ⟨6, _⟩ => ⟨S1x256x7168, .bf16⟩
  | .local _ .vmem, ⟨0, _⟩ => ⟨S256x8192, .bf16⟩
  | .local _ .vmem, ⟨1, _⟩ => ⟨S4096x512, .i8⟩
  | .local _ .vmem, ⟨2, _⟩ => ⟨S4096x512, .i8⟩
  | .local _ .vmem, ⟨3, _⟩ => ⟨S64x512, .bf16⟩
  | .local _ .vmem, ⟨4, _⟩ => ⟨S64x512, .bf16⟩
  | .local _ .vmem, ⟨5, _⟩ => ⟨S64x256, .i8⟩
  | .local _ .vmem, ⟨6, _⟩ => ⟨S64x256, .i8⟩
  | .local _ .vmem, ⟨7, _⟩ => ⟨S256x512, .bf16⟩
  | .local _ .vmem, ⟨8, _⟩ => ⟨S256x512, .bf16⟩
  | _, _ => ⟨S1x256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x256x8192 : Shape := ⟨3, ![1, 256, 8192]⟩
abbrev S4096x7168 : Shape := ⟨2, ![4096, 7168]⟩
abbrev S64x7168 : Shape := ⟨2, ![64, 7168]⟩
abbrev S64x3584 : Shape := ⟨2, ![64, 3584]⟩
abbrev S_ : Shape := ⟨0, ![]⟩
abbrev S64x3584x1 : Shape := ⟨3, ![64, 3584, 1]⟩
abbrev S64x3584x2 : Shape := ⟨3, ![64, 3584, 2]⟩
abbrev S32x7168 : Shape := ⟨2, ![32, 7168]⟩
abbrev S32x128x7168 : Shape := ⟨3, ![32, 128, 7168]⟩
abbrev S32x1x7168 : Shape := ⟨3, ![32, 1, 7168]⟩
abbrev S1x256x4096 : Shape := ⟨3, ![1, 256, 4096]⟩
abbrev S1x256x7168 : Shape := ⟨3, ![1, 256, 7168]⟩

abbrev nBuf : Space → Nat
  | .hbm => 51
  | .vmem => 0
  | .smem => 0
  | _ => 0

abbrev bufTy : (tb : Table) → Fin (tcTables nBuf tb) → BufTy
  | .hbm, ⟨0, _⟩ => ⟨S1x256x8192, .bf16⟩
  | .hbm, ⟨1, _⟩ => ⟨S4096x7168, .i8⟩
  | .hbm, ⟨2, _⟩ => ⟨S64x7168, .bf16⟩
  | .hbm, ⟨3, _⟩ => ⟨S64x3584, .i8⟩
  | .hbm, ⟨4, _⟩ => ⟨S64x3584, .i32⟩
  | .hbm, ⟨5, _⟩ => ⟨S4096x7168, .i32⟩
  | .hbm, ⟨6, _⟩ => ⟨S_, .i32⟩
  | .hbm, ⟨7, _⟩ => ⟨S64x3584, .i32⟩
  | .hbm, ⟨8, _⟩ => ⟨S64x3584, .i32⟩
  | .hbm, ⟨9, _⟩ => ⟨S_, .i32⟩
  | .hbm, ⟨10, _⟩ => ⟨S64x3584, .i32⟩
  | .hbm, ⟨11, _⟩ => ⟨S64x3584, .i32⟩
  | .hbm, ⟨12, _⟩ => ⟨S64x3584x1, .i32⟩
  | .hbm, ⟨13, _⟩ => ⟨S64x3584x1, .i32⟩
  | .hbm, ⟨14, _⟩ => ⟨S64x3584x2, .i32⟩
  | .hbm, ⟨15, _⟩ => ⟨S64x7168, .i32⟩
  | .hbm, ⟨16, _⟩ => ⟨S64x7168, .bf16⟩
  | .hbm, ⟨17, _⟩ => ⟨S_, .i32⟩
  | .hbm, ⟨18, _⟩ => ⟨S4096x7168, .i32⟩
  | .hbm, ⟨19, _⟩ => ⟨S4096x7168, .i32⟩
  | .hbm, ⟨20, _⟩ => ⟨S32x7168, .bf16⟩
  | .hbm, ⟨21, _⟩ => ⟨S32x7168, .bf16⟩
  | .hbm, ⟨22, _⟩ => ⟨S4096x7168, .bf16⟩
  | .hbm, ⟨23, _⟩ => ⟨S32x128x7168, .bf16⟩
  | .hbm, ⟨24, _⟩ => ⟨S32x1x7168, .bf16⟩
  | .hbm, ⟨25, _⟩ => ⟨S32x128x7168, .bf16⟩
  | .hbm, ⟨26, _⟩ => ⟨S32x128x7168, .bf16⟩
  | .hbm, ⟨27, _⟩ => ⟨S32x1x7168, .bf16⟩
  | .hbm, ⟨28, _⟩ => ⟨S32x128x7168, .bf16⟩
  | .hbm, ⟨29, _⟩ => ⟨S32x128x7168, .bf16⟩
  | .hbm, ⟨30, _⟩ => ⟨S4096x7168, .bf16⟩
  | .hbm, ⟨31, _⟩ => ⟨S_, .i32⟩
  | .hbm, ⟨32, _⟩ => ⟨S4096x7168, .i32⟩
  | .hbm, ⟨33, _⟩ => ⟨S4096x7168, .i32⟩
  | .hbm, ⟨34, _⟩ => ⟨S32x7168, .bf16⟩
  | .hbm, ⟨35, _⟩ => ⟨S32x7168, .bf16⟩
  | .hbm, ⟨36, _⟩ => ⟨S4096x7168, .bf16⟩
  | .hbm, ⟨37, _⟩ => ⟨S32x128x7168, .bf16⟩
  | .hbm, ⟨38, _⟩ => ⟨S32x1x7168, .bf16⟩
  | .hbm, ⟨39, _⟩ => ⟨S32x128x7168, .bf16⟩
  | .hbm, ⟨40, _⟩ => ⟨S32x128x7168, .bf16⟩
  | .hbm, ⟨41, _⟩ => ⟨S32x1x7168, .bf16⟩
  | .hbm, ⟨42, _⟩ => ⟨S32x128x7168, .bf16⟩
  | .hbm, ⟨43, _⟩ => ⟨S32x128x7168, .bf16⟩
  | .hbm, ⟨44, _⟩ => ⟨S4096x7168, .bf16⟩
  | .hbm, ⟨45, _⟩ => ⟨S1x256x4096, .bf16⟩
  | .hbm, ⟨46, _⟩ => ⟨S1x256x7168, .f32⟩
  | .hbm, ⟨47, _⟩ => ⟨S1x256x4096, .bf16⟩
  | .hbm, ⟨48, _⟩ => ⟨S1x256x7168, .f32⟩
  | .hbm, ⟨49, _⟩ => ⟨S1x256x7168, .f32⟩
  | .hbm, ⟨50, _⟩ => ⟨S1x256x7168, .bf16⟩
  | _, _ => ⟨S1x256x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Proof.Spec.lean ====
/-
  What one entry of the result is, in plain arithmetic on the extended reals, with nothing of either program in it:
  the 4-bit codes of a byte, and the sum over the 8192 rows of the weight of activation times dequantised weight. The
  lemmas here turn the integer operations of both programs into the codes.
-/
module

public import Idealize.ShloMosaic.Lib.Pointwise

@[expose] public section

set_option maxRecDepth 16384

noncomputable section

namespace Cert.Spec

open Idealize.ShloMosaic

/-- The code at position `n` of the two a byte holds: the low four bits at an even position, the high four at an odd. -/
def code (n : Nat) (b : BitVec 8) : EReal :=
  ((((if n % 2 = 0 then b.toNat % 16 else b.toNat / 16 : ℕ) : ℤ) : ℝ) : EReal)

/-- One entry of the result, from the row `x` of the activations, the column `w` of packed bytes, and the columns `s`
    and `z` of scales and zero points: row `k` of the low codes is row `k` of the weight, row `k` of the high codes is
    row `4096 + k`, and 128 consecutive rows share a scale and a zero point. -/
def entry (x : Fin 8192 → EReal) (w : Fin 4096 → BitVec 8) (s z : Fin 64 → EReal) : EReal :=
  ∑ k : Fin 4096, x ⟨k, by omega⟩ * ((code 0 (w k) - z ⟨k / 128, by omega⟩) * s ⟨k / 128, by omega⟩)
  + ∑ k : Fin 4096, x ⟨4096 + k, by omega⟩
      * ((code 1 (w k) - z ⟨32 + k / 128, by omega⟩) * s ⟨32 + k / 128, by omega⟩)

/-- A statement about every byte is checked at its 256 values. -/
theorem byte_cases {p : BitVec 8 → Prop} (h : ∀ n : Fin 256, p (BitVec.ofNat 8 n)) (b : BitVec 8) : p b := by
  have := h ⟨b.toNat, b.isLt⟩
  rwa [show BitVec.ofNat 8 ((⟨b.toNat, b.isLt⟩ : Fin 256) : Nat) = b from by simp] at this

/-- The low code of a byte masked as a byte. -/
theorem lo8 (φ : FTy) (b : BitVec 8) :
    (FloatOps.sitofp φ (IntOp.andi b 15#8) : Ideal φ) = code 0 b := by
  have h : (IntOp.andi b 15#8).toInt = ((b.toNat % 16 : ℕ) : ℤ) :=
    byte_cases (p := fun b => (IntOp.andi b 15#8).toInt = ((b.toNat % 16 : ℕ) : ℤ)) (by decide +kernel) b
  show (((IntOp.andi b 15#8).toInt : ℝ) : EReal) = _
  rw [h]; rfl

/-- The high code of a byte shifted as a word and narrowed back to a byte. -/
theorem hi8 (φ : FTy) (b : BitVec 8) :
    (FloatOps.sitofp φ (BitVec.setWidth 8 (IntOp.shrsi .vector (BitVec.setWidth 32 b) 4#32)) : Ideal φ) = code 1 b := by
  have h : (BitVec.setWidth 8 (IntOp.shrsi .vector (BitVec.setWidth 32 b) 4#32)).toInt = ((b.toNat / 16 : ℕ) : ℤ) :=
    byte_cases (p := fun b => (BitVec.setWidth 8 (IntOp.shrsi .vector (BitVec.setWidth 32 b) 4#32)).toInt
      = ((b.toNat / 16 : ℕ) : ℤ)) (by decide +kernel) b
  show (((BitVec.setWidth 8 (IntOp.shrsi .vector (BitVec.setWidth 32 b) 4#32)).toInt : ℝ) : EReal) = _
  rw [h]; rfl

/-- The low code of a byte masked as a word. -/
theorem lo32 (φ : FTy) (n : Nat) (hn : n % 2 = 0) (b : BitVec 8) :
    (FloatOps.sitofp φ (IntOp.andi (BitVec.setWidth 32 b) 15#32) : Ideal φ) = code n b := by
  have h : (IntOp.andi (BitVec.setWidth 32 b) 15#32).toInt = ((b.toNat % 16 : ℕ) : ℤ) :=
    byte_cases (p := fun b => (IntOp.andi (BitVec.setWidth 32 b) 15#32).toInt = ((b.toNat % 16 : ℕ) : ℤ))
      (by decide +kernel) b
  show (((IntOp.andi (BitVec.setWidth 32 b) 15#32).toInt : ℝ) : EReal) = _
  rw [h]; simp only [code, hn, if_true, Nat.one_ne_zero, if_false]

/-- The high code of a byte shifted as a word, on the vector unit or on the host. -/
theorem hi32 (φ : FTy) (u : ArithUnit) (n : Nat) (hn : n % 2 = 1) (b : BitVec 8) :
    (FloatOps.sitofp φ (IntOp.shrsi u (BitVec.setWidth 32 b) 4#32) : Ideal φ) = code n b := by
  have h : (IntOp.shrsi u (BitVec.setWidth 32 b) 4#32).toInt = ((b.toNat / 16 : ℕ) : ℤ) := by
    cases u <;> exact byte_cases (p := fun b => (IntOp.shrsi _ (BitVec.setWidth 32 b) 4#32).toInt
      = ((b.toNat / 16 : ℕ) : ℤ)) (by decide +kernel) b
  show (((IntOp.shrsi u (BitVec.setWidth 32 b) 4#32).toInt : ℝ) : EReal) = _
  rw [h]; simp only [code, hn, if_true, Nat.one_ne_zero, if_false]

end Cert.Spec
end
-- ==== Proof.Reference.lean ====
/-
  The reference at an index: entry `(0, i, n)` of its result is `Spec.entry` of row `i` of the activations and column
  `n` of the packed weight, the scales and the zero points.
-/
module

public import proofs.«01_k».proof.Proof.Spec
public import proofs.«01_k».proof.Proof.Gen.ReferenceIdeal.Run
public import proofs.«01_k».proof.Proof.Gen.ReferenceIdeal.Read

@[expose] public section

set_option maxRecDepth 16384

noncomputable section

namespace Cert.ReferenceIdeal.RefValue

open Cert.ReferenceIdeal Cert.ReferenceIdeal.Gen Cert.ReferenceIdeal.Read
open Idealize.ShloMosaic

/-- The reference's zero point of group `g` and output column `n`: code `n` (even or odd) of byte `n / 2` of the group. -/
theorem zero_at (z : IVec S64x3584 8) (g : Fin 64) (n : Fin 7168) :
    (val_main_v10 (F := Ideal) z : FVec Ideal S64x7168 .bf16) (ix2 g n) = Spec.code n (z (ix2 g ⟨n / 2, by omega⟩)) := by
  pointwise [val_main_v0, val_main_v2, val_main_v3, val_main_v4, val_main_v5, val_main_v6, val_main_v7, val_main_v8, val_main_v9, val_main_v10,
    val_main_c, val_main_c_0]
  split
  · exact Spec.lo32 _ _ (by omega) _
  · exact Spec.hi32 _ _ _ (by omega) _

/-- The reference's result at an index. -/
theorem result_at (x : FVec Ideal S1x256x8192 .bf16) (w : IVec S4096x7168 8) (s : FVec Ideal S64x7168 .bf16) (z : IVec S64x3584 8)
    (i : Fin 256) (n : Fin 7168) :
    (val_main_v42 (F := Ideal) x w s z : FVec Ideal S1x256x7168 .bf16) (ix3 0 i n)
      = Spec.entry (fun k => x (ix3 0 i k)) (fun k => w (ix2 k n)) (fun g => s (ix2 g n))
          (fun g => Spec.code n (z (ix2 g ⟨n / 2, by omega⟩))) := by
  pointwise [val_main_v42, val_main_v41, val_main_v40, val_main_v39, val_main_v38, val_main_v37, val_main_v36, val_main_v35, val_main_v34,
   val_main_v33, val_main_v32, val_main_v31, val_main_v30, val_main_v29, val_main_v28, val_main_v27, val_main_v26, val_main_v25,
   val_main_v24, val_main_v23, val_main_v22, val_main_v21, val_main_v20, val_main_v19, val_main_v18, val_main_v17, val_main_v16,
   val_main_v15, val_main_v14, val_main_v13, val_main_v12, val_main_v11, val_main_v1, val_main_c_1, val_main_c_2]
  unfold Spec.entry
  congr 1
  · refine Finset.sum_congr rfl fun k _ => ?_
    rw [Spec.lo32 _ 0 rfl, zero_at]
  · refine Finset.sum_congr rfl fun k _ => ?_
    rw [Spec.hi32 _ _ 1 rfl, zero_at]

end Cert.ReferenceIdeal.RefValue
end
-- ==== Proof.Body.lean ====
/-
  The kernel's body as sixteen equal steps. The printed body unrolls its loop over sixteen slices of 256 packed
  rows; here one step is written once, over where its slices start, and the value the body stores is shown to be the
  sixteen steps composed.
-/
module

public import proofs.«01_k».proof.Proof.Gen.KernelIdeal.Frame

@[expose] public section

set_option maxRecDepth 65536

noncomputable section

namespace Cert.KernelIdeal.Body

open Cert.KernelIdeal Cert.KernelIdeal.Gen
open Idealize.ShloMosaic

variable {F : FTy → Type} [FloatOps F]

/-- The two scale groups of a slice of 256 rows lie inside the table of 64. -/
theorem slices_group {g : Nat} (hg : g + 2 ≤ 64) : S64x512.Slices ![g, 0] S2x512 :=
  ⟨rfl, fun a => by
    match a with
    | ⟨0, _⟩ => exact hg
    | ⟨1, _⟩ => exact Nat.le_refl _⟩

/-- Slice `c` of 256 packed rows lies inside the block of 4096. -/
theorem inb_rows {c : Nat} (hc : c < 16) (a : Fin 2) :
    (![256 * c, 0] : Fin 2 → Nat) a + S256x512.size a ≤ S4096x512.size a := by
  match a with
  | ⟨0, _⟩ => show 256 * c + 256 ≤ 4096; omega
  | ⟨1, _⟩ => exact Nat.le_refl _

/-- A slice of 256 columns of the activations that starts at most 256 before their end lies inside them. -/
theorem inb_cols {k : Nat} (hk : k + 256 ≤ 8192) (a : Fin 2) :
    (![0, k] : Fin 2 → Nat) a + S256x256.size a ≤ S256x8192.size a := by
  match a with
  | ⟨0, _⟩ => exact Nat.le_refl _
  | ⟨1, _⟩ => exact hk

/-- Slice `c` of the packed rows. -/
abbrev rowsRect (c : Nat) (hc : c < 16) : Rect S4096x512 :=
  Rect.unit (s := S4096x512) ![256 * c, 0] S256x512.size (inb_rows hc)

/-- The 256 columns of the activations from column `k` on. -/
abbrev colsRect (k : Nat) (hk : k + 256 ≤ 8192) : Rect S256x8192 :=
  Rect.unit (s := S256x8192) ![0, k] S256x256.size (inb_cols hk)

/-- One slice of 256 rows of codes, dequantised: code minus zero point, times scale, the zero point and the scale
    being those of the row's group (rows `g` and `g + 1` of the two tables). -/
def deq (g : Nat) (h : S64x512.Slices ![g, 0] S2x512) (z s : FVec F S64x512 .bf16) (code : FVec F S256x512 .bf16) :
    FVec F S256x512 .bf16 :=
  shapeCast S256x512 (mulf (subf (shapeCast S2x128x512 code shapeCasts_S256x512_S2x128x512)
      (broadcastTo S2x128x512 (shapeCast S2x1x512 (extractStridedSlice S2x512 ![g, 0] z h) shapeCasts_S2x512_S2x1x512)
        broadcasts_S2x1x512_S2x128x512))
      (broadcastTo S2x128x512 (shapeCast S2x1x512 (extractStridedSlice S2x512 ![g, 0] s h) shapeCasts_S2x512_S2x1x512)
        broadcasts_S2x1x512_S2x128x512)) shapeCasts_S2x128x512_S256x512

/-- The low codes of a slice of packed rows. -/
def lo (p : Vec F S256x512 .i8) : FVec F S256x512 .bf16 :=
  sitofp .bf16 (andi p (broadcast S256x512 15#8))

/-- The high codes of a slice of packed rows. -/
def hi (p : Vec F S256x512 .i8) : FVec F S256x512 .bf16 :=
  sitofp .bf16 (trunci 8 (shrsi (extui 32 p natLt_8_32) (broadcast S256x512 4#32)) natLt_8_32)

/-- One step: the accumulator plus the two products of slice `c` — the low codes against columns `256 c …` of the
    activations, the high codes against columns `4096 + 256 c …`. -/
def step (c : Nat) (hc : c < 16) (x : Vec F S256x8192 .bf16) (w : Vec F S4096x512 .i8) (s z : FVec F S64x512 .bf16)
    (acc : FVec F S256x512 .f32) : FVec F S256x512 .f32 :=
  addf (addf acc
      (matmul dot_S256x256_S256x512_S256x512_1_0_0_1_n_n none
        (shapeCast S256x256 (View.ld x (colsRect (256 * c) (by omega)) : Vec F S256x256 .bf16) shapeCasts_S256x256_S256x256)
        (deq (2 * c) (slices_group (by omega)) z s (lo (View.ld w (rowsRect c hc))))
        (constant S256x512 .f32 0x00000000#32)))
    (matmul dot_S256x256_S256x512_S256x512_1_0_0_1_n_n none
      (shapeCast S256x256 (View.ld x (colsRect (4096 + 256 * c) (by omega)) : Vec F S256x256 .bf16) shapeCasts_S256x256_S256x256)
      (deq (32 + 2 * c) (slices_group (by omega)) z s (hi (View.ld w (rowsRect c hc))))
      (constant S256x512 .f32 0x00000000#32))

/-- The accumulator after the first `n` steps, from zero. -/
def steps (x : Vec F S256x8192 .bf16) (w : Vec F S4096x512 .i8) (s z : FVec F S64x512 .bf16) :
    (n : Nat) → n ≤ 16 → FVec F S256x512 .f32
  | 0, _ => broadcast S256x512 (Scalar.ofBits .f32 0x00000000#32)
  | n + 1, h => step n h x w s z (steps x w s z n (by omega))

/-- What the body stores: the sixteen steps from zero, rounded to bf16. -/
theorem out_eq (x0 : Vec F S256x8192 .bf16) (x1 : Vec F S4096x512 .i8) (x2 : Vec F S64x512 .bf16) (x3 : Vec F S64x256 .i8) :
    out0_4 x0 x1 x2 x3 = View.canon [⟨r0_50,
      truncf .bf16 (steps x0 x1 (View.ld x2 r0_1) (k0_pay55 x0 x1 x2 x3) 16 (Nat.le_refl _)) bitsLt_bf16_f32⟩] := by
  rfl

end Cert.KernelIdeal.Body
end
-- ==== Proof.BodyValue.lean ====
/-
  The body's value at an index: entry `(i, j)` of the block it stores is `Spec.entry` of row `i` of the activations and
  column `j` of the block of packed weights, of scales and of zero points.
-/
module

public import proofs.«01_k».proof.Proof.Body
public import proofs.«01_k».proof.Proof.Spec

@[expose] public section

set_option maxRecDepth 65536

noncomputable section

namespace Cert.KernelIdeal.Body

open Cert.KernelIdeal Cert.KernelIdeal.Gen
open Idealize.ShloMosaic

/-- The offsets of an access to a whole buffer. -/
theorem hz : (![0, 0] : Fin 2 → Nat) = fun _ => 0 := funext fun a => by fin_cases a <;> rfl

/-! ## The zero points -/

/-- One tile of 128 columns of zero points: the lanes gather, from 128 columns of bytes that start at `off`, the bytes
    from byte `a` on, each byte twice, and an even lane keeps its low code, an odd lane its high one. -/
def tile (off : Nat) (h : S64x256.Slices ![0, off] S64x128) (a : BitVec 32) (z : IVec S64x256 8) : IVec S64x128 32 :=
  let lane : IVec S64x128 32 := iota .tc S64x128 32 [1] iota_S64x128_d1_w32
  let idx := addi (shrsi lane (broadcast S64x128 1#32)) (broadcast S64x128 a)
  let idx' := select (cmpi .slt idx (broadcast S64x128 0#32)) (addi idx (broadcast S64x128 128#32)) idx
  let byte : IVec S64x128 32 := dynamicGather 1 (extractStridedSlice S64x128 ![0, off] (extui 32 z natLt_8_32) h)
    (shapeCast S64x128 (shapeCast S64x128x1 idx' shapeCasts_S64x128_S64x128x1) shapeCasts_S64x128x1_S64x128)
  select (cmpi .eq (andi lane (broadcast S64x128 1#32)) (broadcast S64x128 0#32))
    (andi byte (broadcast S64x128 15#32)) (shrsi byte (broadcast S64x128 4#32))

/-- The table of zero points the body makes is four such tiles side by side, converted. -/
theorem zeros_eq {F : FTy → Type} [FloatOps F] (x0 : Vec F S256x8192 .bf16) (x1 : Vec F S4096x512 .i8)
    (x2 : Vec F S64x512 .bf16) (x3 : Vec F S64x256 .i8) :
    k0_pay55 x0 x1 x2 x3 = truncf .bf16 (sitofp .f32 (concatenate S64x512 1
      [⟨S64x128, tile 0 slices_S64x256_o0_0_S64x128 0#32 (View.ld x3 r0_0)⟩,
       ⟨S64x128, tile 0 slices_S64x256_o0_0_S64x128 64#32 (View.ld x3 r0_0)⟩,
       ⟨S64x128, tile 128 slices_S64x256_o0_128_S64x128 0#32 (View.ld x3 r0_0)⟩,
       ⟨S64x128, tile 128 slices_S64x256_o0_128_S64x128 64#32 (View.ld x3 r0_0)⟩]
      concatenates_S64x128_S64x128_S64x128_S64x128_S64x512_d1) : FVec F S64x512 .f32) bitsLt_bf16_f32 := rfl

/-- The byte lane `l` gathers: byte `l / 2` of the half tile that starts at `64 q`. -/
theorem gather_idx (q : Fin 2) (l : Fin 128) :
    (Scalar.select
        (IntOp.cmpi .slt (IntOp.addi (IntOp.shrsi .vector (BitVec.ofNat 32 l) 1#32) (BitVec.ofNat 32 (64 * q))) 0#32)
        (IntOp.addi (IntOp.addi (IntOp.shrsi .vector (BitVec.ofNat 32 l) 1#32) (BitVec.ofNat 32 (64 * q))) 128#32)
        (IntOp.addi (IntOp.shrsi .vector (BitVec.ofNat 32 l) 1#32) (BitVec.ofNat 32 (64 * q)))).toNat % 128
      = 64 * q + l / 2 := by
  revert q l; decide +kernel

/-- The test of a lane's parity. -/
theorem lane_even (l : Fin 128) :
    IntOp.cmpi .eq (IntOp.andi (BitVec.ofNat 32 l) 1#32) 0#32 = BitVec.ofBool (decide ((l : Nat) % 2 = 0)) := by
  revert l; decide +kernel

/-- A tile at an index, converted: the code of its lane's parity, of the byte the lane gathers. -/
theorem tile_at (φ : FTy) (off : Nat) (h : S64x256.Slices ![0, off] S64x128) (q : Fin 2) (z : IVec S64x256 8)
    (g : Fin 64) (l : Fin 128) (n : Fin 256) (hn : (n : Nat) = off + (64 * q + l / 2)) (p : Nat)
    (hp : p % 2 = (l : Nat) % 2) :
    (FloatOps.sitofp φ (tile off h (BitVec.ofNat 32 (64 * q)) z (ix2 g l)) : Ideal φ) = Spec.code p (z (ix2 g n)) := by
  pointwise [tile]
  simp only [gather_idx, lane_even, ← hn]
  by_cases hl : (l : Nat) % 2 = 0
  · simp only [hl, decide_true]
    exact Spec.lo32 _ _ (hp.trans hl) _
  · simp only [hl, decide_false]
    exact Spec.hi32 _ .vector _ (by omega) _

/-- The table of zero points at an index. -/
theorem zeros_at (x0 : Vec Ideal S256x8192 .bf16) (x1 : Vec Ideal S4096x512 .i8)
    (x2 : Vec Ideal S64x512 .bf16) (x3 : Vec Ideal S64x256 .i8) (g : Fin 64) (j : Fin 512) :
    (k0_pay55 x0 x1 x2 x3 : FVec Ideal S64x512 .bf16) (ix2 g j) = Spec.code j (x3 (ix2 g ⟨j / 2, by omega⟩)) := by
  rw [zeros_eq, View.ld_unit_zero hz]
  pointwise
  split
  · exact tile_at _ 0 _ 0 _ _ ⟨j, by omega⟩ _ (by show (j : Nat) / 2 = 0 + (64 * 0 + (j : Nat) / 2); omega) _ rfl
  split
  · exact tile_at _ 0 _ 1 _ _ ⟨j - 128, by omega⟩ _
      (by show (j : Nat) / 2 = 0 + (64 * 1 + ((j : Nat) - 128) / 2); omega) _
      (by show (j : Nat) % 2 = ((j : Nat) - 128) % 2; omega)
  split
  · exact tile_at _ 128 _ 0 _ _ ⟨j - 128 - 128, by omega⟩ _
      (by show (j : Nat) / 2 = 128 + (64 * 0 + ((j : Nat) - 128 - 128) / 2); omega) _
      (by show (j : Nat) % 2 = ((j : Nat) - 128 - 128) % 2; omega)
  · exact tile_at _ 128 _ 1 _ _ ⟨j - 128 - 128 - 128, by omega⟩ _
      (by show (j : Nat) / 2 = 128 + (64 * 1 + ((j : Nat) - 128 - 128 - 128) / 2); omega) _
      (by show (j : Nat) % 2 = ((j : Nat) - 128 - 128 - 128) % 2; omega)

/-! ## The sums -/

/-- Term `k` of the low half of the sum of `Spec.entry`, and zero past its end. -/
def loTerm (x : Fin 8192 → EReal) (w : Fin 4096 → BitVec 8) (s z : Fin 64 → EReal) (k : Nat) : EReal :=
  if h : k < 4096 then x ⟨k, by omega⟩ * ((Spec.code 0 (w ⟨k, h⟩) - z ⟨k / 128, by omega⟩) * s ⟨k / 128, by omega⟩) else 0

/-- Term `k` of the high half of the sum of `Spec.entry`, and zero past its end. -/
def hiTerm (x : Fin 8192 → EReal) (w : Fin 4096 → BitVec 8) (s z : Fin 64 → EReal) (k : Nat) : EReal :=
  if h : k < 4096 then x ⟨4096 + k, by omega⟩
    * ((Spec.code 1 (w ⟨k, h⟩) - z ⟨32 + k / 128, by omega⟩) * s ⟨32 + k / 128, by omega⟩) else 0

/-- `Spec.entry` as two sums over a range. -/
theorem entry_eq (x : Fin 8192 → EReal) (w : Fin 4096 → BitVec 8) (s z : Fin 64 → EReal) :
    Spec.entry x w s z = ∑ k ∈ Finset.range 4096, loTerm x w s z k + ∑ k ∈ Finset.range 4096, hiTerm x w s z k := by
  rw [Finset.sum_range, Finset.sum_range]
  unfold Spec.entry
  refine congrArg₂ (· + ·) ?_ ?_
  · exact Finset.sum_congr rfl fun k _ => by rw [loTerm, dif_pos k.isLt]
  · exact Finset.sum_congr rfl fun k _ => by rw [hiTerm, dif_pos k.isLt]

/-- One step at an index: it adds the next 256 terms of each half. -/
theorem step_at (c : Nat) (hc : c < 16) (x : Vec Ideal S256x8192 .bf16) (w : Vec Ideal S4096x512 .i8)
    (s z : FVec Ideal S64x512 .bf16) (acc : FVec Ideal S256x512 .f32) (i : Fin 256) (j : Fin 512) :
    step c hc x w s z acc (ix2 i j) = acc (ix2 i j)
      + ∑ k ∈ Finset.range 256, loTerm (fun k => x (ix2 i k)) (fun k => w (ix2 k j)) (fun g => s (ix2 g j))
          (fun g => z (ix2 g j)) (256 * c + k)
      + ∑ k ∈ Finset.range 256, hiTerm (fun k => x (ix2 i k)) (fun k => w (ix2 k j)) (fun g => s (ix2 g j))
          (fun g => z (ix2 g j)) (256 * c + k) := by
  pointwise [step, deq, lo, hi]
  rw [Finset.sum_range, Finset.sum_range]
  have e (k : Fin 256) : (256 * c + k) / 128 = 2 * c + k / 128 := by omega
  congr 1
  · congr 1
    refine Finset.sum_congr rfl fun k _ => ?_
    rw [loTerm, dif_pos (by omega), Spec.lo8]
    simp only [e]
  · refine Finset.sum_congr rfl fun k _ => ?_
    rw [hiTerm, dif_pos (by omega), Spec.hi8]
    simp only [e, add_assoc]

/-- The accumulator after `n` steps at an index: the first `256 n` terms of each half. -/
theorem steps_at (x : Vec Ideal S256x8192 .bf16) (w : Vec Ideal S4096x512 .i8) (s z : FVec Ideal S64x512 .bf16)
    (i : Fin 256) (j : Fin 512) (n : Nat) (hn : n ≤ 16) :
    steps x w s z n hn (ix2 i j)
      = ∑ k ∈ Finset.range (256 * n), loTerm (fun k => x (ix2 i k)) (fun k => w (ix2 k j)) (fun g => s (ix2 g j))
          (fun g => z (ix2 g j)) k
      + ∑ k ∈ Finset.range (256 * n), hiTerm (fun k => x (ix2 i k)) (fun k => w (ix2 k j)) (fun g => s (ix2 g j))
          (fun g => z (ix2 g j)) k := by
  induction n with
  | zero =>
    pointwise [steps]
    simp
  | succ n ih =>
    rw [steps, step_at, ih, Nat.mul_succ, Finset.sum_range_add, Finset.sum_range_add, add_add_add_comm, add_assoc]

/-- What the body stores, at an index. -/
theorem out_at (x0 : Vec Ideal S256x8192 .bf16) (x1 : Vec Ideal S4096x512 .i8)
    (x2 : Vec Ideal S64x512 .bf16) (x3 : Vec Ideal S64x256 .i8) (i : Fin 256) (j : Fin 512) :
    (out0_4 x0 x1 x2 x3 : FVec Ideal S256x512 .bf16) (ix2 i j)
      = Spec.entry (fun k => x0 (ix2 i k)) (fun k => x1 (ix2 k j)) (fun g => x2 (ix2 g j))
          (fun g => Spec.code j (x3 (ix2 g ⟨j / 2, by omega⟩))) := by
  rw [out_eq, View.canon_unit_zero hz, View.ld_unit_zero hz, entry_eq]
  simp only [← zeros_at x0 x1 x2 x3]
  exact steps_at x0 x1 x2 (k0_pay55 x0 x1 x2 x3) i j 16 (Nat.le_refl _)

end Cert.KernelIdeal.Body
end
-- ==== Proof.Value.lean ====
/-
  The kernel's result. Each of the fourteen grid points writes one block of 512 columns; every entry of it is
  `Spec.entry` of a row of the activations and a column of the packed weight, the scales and the zero points. The blocks
  fill the array, and the reshape after the region gives it its leading axis back.
-/
module

public import proofs.«01_k».proof.Proof.BodyValue
public import Idealize.ShloMosaic.Lib.Pipeline.ValueKit
public import Idealize.ShloMosaic.Lib.Claim

@[expose] public section

set_option maxRecDepth 16384

noncomputable section

namespace Cert.KernelIdeal.RefValue

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Entry `(i, n)` of the product, from the four argument arrays. -/
def entryOf (x : FVec Ideal S1x256x8192 .bf16) (w : IVec S4096x7168 8) (s : FVec Ideal S64x7168 .bf16)
    (z : IVec S64x3584 8) (i : Fin 256) (n : Fin 7168) : EReal :=
  Spec.entry (fun k => x (ix3 0 i k)) (fun k => w (ix2 k n)) (fun g => s (ix2 g n))
    (fun g => Spec.code n (z (ix2 g ⟨n / 2, by omega⟩)))

/-- The product as the array the region writes. -/
def prod (x : FVec Ideal S1x256x8192 .bf16) (w : IVec S4096x7168 8) (s : FVec Ideal S64x7168 .bf16)
    (z : IVec S64x3584 8) : FVec Ideal S256x7168 .bf16 :=
  fun y => entryOf x w s z (y 0) (y 1)

/-- The product of device `c`'s arguments. -/
abbrev prodOf (c : Dev nD) : FVec Ideal S256x7168 .bf16 :=
  prod (m ((c : Thread nD τ).loc main_arg0)) (m ((c : Thread nD τ).loc main_arg1)) (m ((c : Thread nD τ).loc main_arg2))
    (m ((c : Thread nD τ).loc main_arg3))

/-- The windows' blocks at a point: the activations whole, and block `t` of columns of the others. -/
theorem idx : ∀ t : Fin cfg0.N, win0_0.index t = ![0, 0] ∧ win0_1.index t = ![0, t.val] ∧ win0_2.index t = ![0, t.val]
    ∧ win0_3.index t = ![0, t.val] ∧ win0_4.index t = ![0, t.val] :=
  (by decide +kernel : ∀ t : Fin grid0.N, _)

/-- The activations reshaped to a matrix, at an index. -/
theorem matrix_at (x : FVec Ideal S1x256x8192 .bf16) (i : Fin 256) (k : Fin 8192) :
    shapeCast S256x8192 x shapeCasts_S1x256x8192_S256x8192 (ix2 i k) = x (ix3 0 i k) := by
  pointwise

/-- The region reads the activations reshaped to a matrix. -/
theorem V_x (c : Dev nD) (i : Fin 256) (k : Fin 8192) :
    (V m c main_v0 : FVec Ideal S256x8192 .bf16) (ix2 i k)
      = (m ((c : Thread nD τ).loc main_arg0) : FVec Ideal S1x256x8192 .bf16) (ix3 0 i k) := by
  have e : (V m c main_v0 : FVec Ideal S256x8192 .bf16)
      = shapeCast S256x8192 (m ((c : Thread nD τ).loc main_arg0) : FVec Ideal S1x256x8192 .bf16)
          shapeCasts_S1x256x8192_S256x8192 := by
    unfold V V0
    simp only [hostOps0, List.flatten_cons, List.flatten_nil, List.append_nil]
    after_results
    rfl
  exact (congrFun e _).trans (matrix_at _ i k)

/-- What the body stores at an index of its block is the product at the array index that index sits at. -/
theorem point (c : Dev nD) (t : Fin cfg0.N) (i : Fin 256) (j : Fin 512) :
    (out0_4 (iblk m c 0 t) (iblk m c 1 t) (iblk m c 2 t) (iblk m c 3 t) : FVec Ideal S256x512 .bf16) (ix2 i j)
      = prodOf m c (((cfg0.win 4).blk t).view.emb (ix2 i j)) := by
  have ht : t.val < 14 := t.isLt
  have e : (((cfg0.win 4).blk t).view.emb (ix2 i j : S256x512.Idx) : S256x7168.Idx) = ix2 i ⟨512 * t.val + j, by omega⟩ := by
    blk_ext [idx t]
  rw [Body.out_at, e]
  show _ = entryOf _ _ _ _ i ⟨512 * t.val + j, by omega⟩
  unfold entryOf
  have hx (k : Fin 8192) : (iblk m c 0 t : FVec Ideal S256x8192 .bf16) (ix2 i k)
      = (m ((c : Thread nD τ).loc main_arg0) : FVec Ideal S1x256x8192 .bf16) (ix3 0 i k) := by
    refine Eq.trans ?_ (V_x m c i k)
    blk_ext [iblk, idx t]
  have hw (k : Fin 4096) : (iblk m c 1 t : IVec S4096x512 8) (ix2 k j)
      = (m ((c : Thread nD τ).loc main_arg1) : IVec S4096x7168 8) (ix2 k ⟨512 * t.val + j, by omega⟩) := by
    blk_ext [iblk, V_main_arg1, idx t]
  have hs (g : Fin 64) : (iblk m c 2 t : FVec Ideal S64x512 .bf16) (ix2 g j)
      = (m ((c : Thread nD τ).loc main_arg2) : FVec Ideal S64x7168 .bf16) (ix2 g ⟨512 * t.val + j, by omega⟩) := by
    blk_ext [iblk, V_main_arg2, idx t]
  have hz (g : Fin 64) : (iblk m c 3 t : IVec S64x256 8) (ix2 g ⟨j / 2, by omega⟩)
      = (m ((c : Thread nD τ).loc main_arg3) : IVec S64x3584 8) (ix2 g ⟨(512 * t.val + j) / 2, by omega⟩) := by
    blk_ext [iblk, V_main_arg3, idx t]
  have hc (b : BitVec 8) : Spec.code j b = Spec.code (512 * t.val + j) b := by
    unfold Spec.code; rw [show (512 * t.val + (j : Nat)) % 2 = (j : Nat) % 2 by omega]
  refine congr (congr (congr (congrArg Spec.entry (funext hx)) (funext hw)) (funext hs)) (funext fun g => ?_)
  exact (congrArg _ (hz g)).trans (hc _)

/-- The array the region writes ends at the product. -/
theorem final (c : Dev nD) : (dats m 0 c).arrAt 4 cfg0.N = prodOf m c := by
  refine (dats m 0 c).arrAt_eq_of_covers 4 _ (by decide +kernel) fun t _ y => ?_
  blk_simp
  rw [after0_4]
  have := point m c t (y 0) (y 1)
  rw [← eq_ix2] at this
  exact this

/-- The kernel's result: the product with a leading axis of one. -/
def result (x : FVec Ideal S1x256x8192 .bf16) (w : IVec S4096x7168 8) (s : FVec Ideal S64x7168 .bf16)
    (z : IVec S64x3584 8) : FVec Ideal S1x256x7168 .bf16 :=
  fun y => entryOf x w s z (y 1) (y 2)

/-- After the reshape that follows the region, the result buffer holds the result. -/
theorem W_result (c : Dev nD) :
    Pipeline.afterTail₀ cfgs (dats m) 0 (V0 m) [hostOps1] c main_v2
      = result (m ((c : Thread nD τ).loc main_arg0)) (m ((c : Thread nD τ).loc main_arg1))
          (m ((c : Thread nD τ).loc main_arg2)) (m ((c : Thread nD τ).loc main_arg3)) := by
  unfold Pipeline.afterTail₀
  simp only [hostOps1, List.flatten_cons, List.flatten_nil, List.append_nil]
  after_region_results
  erw [Pipeline.withArrays_arr spec0 launch0.win.arr_inj c (V0 m c) _ 4]
  refine Eq.trans (congrArg (fun a : FVec Ideal S256x7168 .bf16 =>
    shapeCast S1x256x7168 a shapeCasts_S256x7168_S1x256x7168) (final m c)) ?_
  funext y
  idx_vars y
  pointwise [prod, result]

/-- The kernel's run: the result buffer ends at the result, the arguments unchanged. -/
theorem run : θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h.1 c).2 main_v2 (Pipeline.mem_restRefs_of main_v2 (by decide) (by decide))).trans (W_result m c), h.2 c⟩)
    (θ_run_and (run_main m ρ) (unchanged m ρ))

end Cert.KernelIdeal.RefValue
end
-- ==== Proof.lean ====
/-
  The certificate of one kernel: a matrix product whose weight is stored as two 4-bit codes to the byte, with a bf16 scale
  and a 4-bit zero point per 128 rows and column, against the product of the activations with the dequantised weight.

  The kernel and its idealization terminate from any memory and leave their arguments unchanged (the generated frames), so
  does the reference, and on extended reals the kernel's one result is the reference's (`algebraic`): both are
  `Spec.entry` of the arguments at every index — Proof/Body.lean and Proof/BodyValue.lean read the kernel's body,
  Proof/Value.lean its run, Proof/Reference.lean the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Reference
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs from any memory to its end, every counter at zero, its arguments unchanged. -/
theorem frame_kernel : Cert.quiescent_Kernel := fun m ρ _ => Cert.Kernel.Gen.frame m ρ

/-- So does its idealization. -/
theorem frame_kernelIdeal : Cert.quiescent_KernelIdeal := fun m ρ _ => Cert.KernelIdeal.Gen.frame m ρ

/-- So does the reference, which has no counter. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealization rewrote nothing. -/
theorem preserves : Cert.preserves_Kernel_KernelIdeal := trivial

/-- The reference's result, as a function of the arguments, is the kernel's. -/
theorem reference_eq (x : FVec Ideal Cert.KernelIdeal.S1x256x8192 .bf16) (w : IVec Cert.KernelIdeal.S4096x7168 8)
    (s : FVec Ideal Cert.KernelIdeal.S64x7168 .bf16) (z : IVec Cert.KernelIdeal.S64x3584 8) :
    Cert.ReferenceIdeal.Read.val_main_v42 (F := Ideal) x w s z = Cert.KernelIdeal.RefValue.result x w s z := by
  funext y
  have h : y = ix3 (0 : Fin 1) (y 1) (y 2) := (eq_ix3 y).trans
    (congrArg (fun a : Fin 1 => (ix3 a (y 1) (y 2) : Cert.KernelIdeal.S1x256x7168.Idx)) (Subsingleton.elim _ _))
  rw [h]
  exact Cert.ReferenceIdeal.RefValue.result_at x w s z (y 1) (y 2)

/-- On extended reals, from the same arguments, the kernel and the reference end with equal results. -/
theorem algebraic : Cert.algebraic_KernelIdeal_ReferenceIdeal := by
  intro m ρ m' ρ' _ hagree
  refine ⟨_, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v42_eq _ _ _ _).trans ?_
  rw [(hagree c).1, (hagree c).2.1, (hagree c).2.2.1, (hagree c).2.2.2]
  exact reference_eq _ _ _ _

/-- The whole claim. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
